-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | .local _ .vmem, ⟨7, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩

abbrev nBuf : Space → Nat
  | .hbm => 9
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Block.lean ====
/-
  What the grid points leave behind. The first point stores the support `input @ W` into the scratch and multiplies
  its adjacency block by it. Every later point multiplies by what the scratch already holds and leaves the scratch
  alone. So every point's output block is its adjacency block times the support, plus the bias.
-/
module

public import proofs.«01_k».proof.Proof.Gen.KernelIdeal.Value
public import Idealize.ShloMosaic.Lib.Pipeline.ValueKit
public import Idealize.ShloMosaic.Lib.Pipeline.ReadBack

@[expose] public section

noncomputable section

namespace Cert.KernelIdeal.Gcn

open Cert.KernelIdeal Cert.KernelIdeal.Gen Idealize.ShloMosaic Idealize.ShloMosaic.TcCoe

variable {F : FTy → Type} [FloatOps F]
variable (m : (ℓ : Loc nD τ sig) → Buf (Elt F) ℓ) (c : Dev nD)

/-- The feature matrix is one block, the same at every point: the whole argument. -/
theorem features_block (t : Fin cfg0.N) : iblk m c 0 t = m ((c : Thread nD τ).loc main_arg0) := by
  have place : ∀ t : Fin cfg0.N, win0_0.index t = ![0, 0] := (by decide +kernel : ∀ t : Fin grid0.N, _)
  rw [← V_main_arg0 m c]
  funext y
  blk_ext [iblk, place t]

/-- The weight matrix is one block, the same at every point: the whole argument. -/
theorem weights_block (t : Fin cfg0.N) : iblk m c 2 t = m ((c : Thread nD τ).loc main_arg2) := by
  have place : ∀ t : Fin cfg0.N, win0_2.index t = ![0, 0] := (by decide +kernel : ∀ t : Fin grid0.N, _)
  rw [← V_main_arg2 m c]
  funext y
  blk_ext [iblk, place t]

/-- The support `input @ W`, as the first point computes it from the whole arguments. -/
def support : Vec F S10000x128 .f32 :=
  k0_pay1 (m ((c : Thread nD τ).loc main_arg0)) (m ((c : Thread nD τ).loc main_arg2))

/-- After every point the scratch holds the support: the first point stores it, the others keep it. -/
theorem scratch_eq : ∀ (n : ℕ) (h : n < cfg0.N), (outsAt0 m c n h).2 = support m c
  | 0, h => by
    rw [outsAt0_A m c ⟨0, h⟩ rfl]
    frame_out
    rw [features_block, weights_block]
    rfl
  | n + 1, h => by
    have hN : cfg0.N = 25 := N_0
    rw [outsAt0_B m c ⟨n + 1, h⟩ (by dsimp only; omega)]
    exact scratch_eq n (Nat.lt_of_succ_lt h)

/-- Every point's output block: its adjacency block times the support, plus the bias. -/
theorem block_eq (t : Fin cfg0.N) :
    (outsAt0 m c t.val t.isLt).1 = k0_pay2 (iblk m c 1 t) (support m c) (iblk m c 3 t) := by
  by_cases h : t.val % 25 = 0
  · rw [outsAt0_A m c t h]
    frame_out
    rw [features_block, weights_block]
    rfl
  · rw [outsAt0_B m c t h, scratch_eq]
    frame_out
    simp only [read_unread_whole]

end Cert.KernelIdeal.Gcn

end
-- ==== Proof.Array.lean ====
/-
  What the kernel's result array holds, over the extended reals. Entry (r, j) is the sum over the nodes k of
  adjacency (r, k) times the support's (k, j), plus the bias at j; the support's (k, j) is the sum over the features l
  of input (k, l) times W (l, j). The 25 blocks of 400 rows fill the array.
-/
module

public import proofs.«01_k».proof.Proof.Block
public import Idealize.ShloMosaic.Lib.Pointwise
public import Idealize.ShloMosaic.Lib.StableHlo.Run

@[expose] public section

noncomputable section

namespace Cert.KernelIdeal.Gcn

open Cert.KernelIdeal Cert.KernelIdeal.Gen Idealize.ShloMosaic Idealize.ShloMosaic.TcCoe

/-- The graph convolution `(adj @ (x @ w)) + b` as a plain formula, entry by entry. -/
def conv (x : S10000x128.Idx → EReal) (adj : S10000x10000.Idx → EReal) (w : S128x128.Idx → EReal) (b : S128.Idx → EReal) :
    S10000x128.Idx → EReal :=
  fun i => (∑ k : Fin 10000, adj (ix2 (i 0 : Fin 10000) k) * ∑ l : Fin 128, x (ix2 k l) * w (ix2 l (i 1 : Fin 128)))
    + b (ix1 (i 1 : Fin 128))

/-- The graph convolution at the entry of row `q` and column `j`. -/
theorem conv_apply (x : S10000x128.Idx → EReal) (adj : S10000x10000.Idx → EReal) (w : S128x128.Idx → EReal)
    (b : S128.Idx → EReal) (q : Fin 10000) (j : Fin 128) :
    conv x adj w b (ix2 q j) = (∑ k : Fin 10000, adj (ix2 q k) * ∑ l : Fin 128, x (ix2 k l) * w (ix2 l j)) + b (ix1 j) := rfl

/-- The support's payload read at an entry: the sum over the features. -/
theorem support_apply (x : S10000x128.Idx → EReal) (w : S128x128.Idx → EReal) (k : Fin 10000) (j : Fin 128) :
    k0_pay1 (F := Ideal) x w (ix2 k j) = ∑ l : Fin 128, x (ix2 k l) * w (ix2 l j) := by
  pointwise [k0_pay1]

/-- The output's payload read at an entry: the sum over the nodes, plus the bias. -/
theorem output_apply (adj : S400x10000.Idx → EReal) (s : S10000x128.Idx → EReal) (b : S1x128.Idx → EReal) (r : Fin 400)
    (j : Fin 128) :
    k0_pay2 (F := Ideal) adj s b (ix2 r j) = (∑ k : Fin 10000, adj (ix2 r k) * s (ix2 k j)) + b (ix2 0 j) := by
  pointwise [k0_pay2]

variable (m : (ℓ : Loc nD τ sig) → Buf (Elt Ideal) ℓ) (c : Dev nD)

/-- Row `r` of the adjacency block at point `t` is row `400 t + r` of the adjacency matrix. -/
theorem adjacency_block (t : Fin cfg0.N) (r : Fin 400) (k : Fin 10000) (q : Fin 10000) (hq : q.val = t.val * 400 + r.val) :
    iblk m c 1 t (ix2 r k) = m ((c : Thread nD τ).loc main_arg1) (ix2 q k) := by
  have place : ∀ t : Fin cfg0.N, win0_1.index t = ![t.val, 0] := (by decide +kernel : ∀ t : Fin grid0.N, _)
  rw [← V_main_arg1 m c]
  blk_ext [iblk, place t]

/-- The bias block at every point is the bias vector laid as one row. -/
theorem bias_block (t : Fin cfg0.N) (j : Fin 128) :
    iblk m c 3 t (ix2 0 j) = m ((c : Thread nD τ).loc main_arg3) (ix1 j) := by
  have place : ∀ t : Fin cfg0.N, win0_3.index t = ![0, 0] := (by decide +kernel : ∀ t : Fin grid0.N, _)
  have row : V m c main_v0 = shapeCast S1x128 (m ((c : Thread nD τ).loc main_arg3)) shapeCasts_S128_S1x128 := by
    unfold_abbrev_sides
    after_results
    rfl
  have read : iblk m c 3 t (ix2 0 j) = V m c main_v0 (ix2 0 j) := by blk_ext [iblk, place t]
  rw [read, row]
  pointwise

/-- The result array after the run is the graph convolution of the arguments. -/
theorem result_eq : (dats m 0 c).arrAt 4 cfg0.N = conv (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t hf y => ?_
  have place : ∀ t : Fin cfg0.N, win0_4.index t = ![t.val, 0] := (by decide +kernel : ∀ t : Fin grid0.N, _)
  have ht : t.val < 25 := lt_of_lt_of_eq t.isLt N_0
  obtain ⟨r, j, rfl⟩ : ∃ (r : Fin 400) (j : Fin 128), y = ix2 r j := ⟨y 0, y 1, eq_ix2 y⟩
  obtain ⟨q, hq⟩ : ∃ q : Fin 10000, q.val = t.val * 400 + r.val := ⟨⟨t.val * 400 + r.val, by omega⟩, rfl⟩
  have spot : ((cfg0.win 4).blk t).view.emb (ix2 r j) = ix2 q j := by
    blk_ext [place t, hq]
  rw [spot]
  blk_simp
  rw [after0_4, block_eq, output_apply, conv_apply, bias_block]
  refine Ideal.add_congr (Finset.sum_congr rfl fun k _ => ?_) rfl
  exact Ideal.mul_congr (adjacency_block m c t r k q hq) (support_apply _ _ k j)

end Cert.KernelIdeal.Gcn

end
-- ==== Proof.Reference.lean ====
/-
  What the reference's result holds, over the extended reals: its two matrix products and the broadcast bias are the same
  formula as the kernel's, entry by entry.
-/
module

public import proofs.«01_k».proof.Proof.Array
public import proofs.«01_k».proof.Proof.Gen.ReferenceIdeal.Run

@[expose] public section

noncomputable section

namespace Cert.ReferenceIdeal.Gcn

open Cert.ReferenceIdeal Cert.ReferenceIdeal.Gen Idealize.ShloMosaic Idealize.ShloMosaic.TcCoe

/-- The reference's composed term is the graph convolution of its arguments. -/
theorem term_eq (x : FVec Ideal S10000x128 .f32) (adj : FVec Ideal S10000x10000 .f32) (w : FVec Ideal S128x128 .f32)
    (b : FVec Ideal S128 .f32) :
    (addf (Host.dotGeneral dot_S10000x10000_S10000x128_S10000x128_1_0_0_1_n_n none adj
        (Host.dotGeneral dot_S10000x128_S128x128_S10000x128_1_0_0_1_n_n none x w))
      (broadcastInDim S10000x128 ![0, 1] bcast_S1x128_S10000x128_0_1 (broadcastInDim S1x128 ![1] bcast_S128_S1x128_1 b)) : FVec Ideal S10000x128 .f32)
      = Cert.KernelIdeal.Gcn.conv x adj w b := by
  funext i
  obtain ⟨q, j, rfl⟩ : ∃ (q : Fin 10000) (j : Fin 128), i = ix2 q j := ⟨i 0, i 1, eq_ix2 i⟩
  refine Eq.trans ?_ (Cert.KernelIdeal.Gcn.conv_apply x adj w b q j).symm
  pointwise

end Cert.ReferenceIdeal.Gcn

end
-- ==== Proof.lean ====
/-
  The five claims. The frames are the generated ones; the equality of the results puts the kernel's array
  (Proof/Array.lean) beside the reference's term (Proof/Reference.lean): both are the graph convolution of the arguments.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Array
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, keeps its arguments and leaves no counter raised: it declares none. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On equal arguments the kernel and the reference leave equal results. -/
theorem algebraic_KernelIdeal_ReferenceIdeal : algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  obtain ⟨e0, e1, e2, e3⟩ := hagree c
  rw [(h c).1, Cert.KernelIdeal.Gcn.result_eq m c, Cert.ReferenceIdeal.Gcn.term_eq, e0, e1, e2, e3]

/-- Everything claimed. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, quiescent_ReferenceIdeal,
    (trivial : preserves_Kernel_KernelIdeal), algebraic_KernelIdeal_ReferenceIdeal⟩

end Cert.Proof

end
